-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S16x2x1000x481x2 : Shape := ⟨5, ![16, 2, 1000, 481, 2]⟩
abbrev S1x1x481x1 : Shape := ⟨4, ![1, 1, 481, 1]⟩
abbrev S_ : Shape := ⟨0, ![]⟩

class Facts : Prop where
  bcast_S_S1x1x481x1 : S_.BroadcastsInDim S1x1x481x1 (![] : Fin 0 → Fin S1x1x481x1.rank)
  reducesTo_S1x1x481x1_S_d0_1_2_3 : S1x1x481x1.ReducesTo [0, 1, 2, 3] S_
  h_S_ : 0 < S_.numel

variable [Facts]

def fn {F : FTy → Type} [FloatOps F] (main_arg0 : FVec F S16x2x1000x481x2 .f32) (main_arg1 : FVec F S1x1x481x1 .f32) : IVec S_ 1 :=
  let main_cst : FVec F S_ .f32 := constant S_ .f32 0x00000000#32
  let main_v0 : FVec F S1x1x481x1 .f32 := broadcastInDim S1x1x481x1 ![] bcast_S_S1x1x481x1 main_cst
  let main_v1 : IVec S1x1x481x1 1 := cmpf .oge main_arg1 main_v0
  let main_c : IVec S_ 1 := constantI S_ 1 1#1
  let main_v2 : IVec S_ 1 := (fun x v => Host.reduce IntOp.andi x v reducesTo_S1x1x481x1_S_d0_1_2_3 h_S_) main_v1 main_c
  main_v2
-- ==== Kernel.lean ====
abbrev S16x2x1000x481x2 : Shape := ⟨5, ![16, 2, 1000, 481, 2]⟩
abbrev S1x1x481x1 : Shape := ⟨4, ![1, 1, 481, 1]⟩
abbrev S16x2x481x2x1000 : Shape := ⟨5, ![16, 2, 481, 2, 1000]⟩
abbrev S32x481x2x1000 : Shape := ⟨4, ![32, 481, 2, 1000]⟩
abbrev S481x1 : Shape := ⟨2, ![481, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x481x2x1000 : Shape := ⟨4, ![1, 481, 2, 1000]⟩
abbrev S481x2x1000 : Shape := ⟨3, ![481, 2, 1000]⟩
abbrev S481x1x1000 : Shape := ⟨3, ![481, 1, 1000]⟩
abbrev S481x1000 : Shape := ⟨2, ![481, 1000]⟩
abbrev S481x256 : Shape := ⟨2, ![481, 256]⟩
abbrev S481x1x256 : Shape := ⟨3, ![481, 1, 256]⟩
abbrev S481x2x256 : Shape := ⟨3, ![481, 2, 256]⟩
abbrev S1x481x2x256 : Shape := ⟨4, ![1, 481, 2, 256]⟩
abbrev S481x232 : Shape := ⟨2, ![481, 232]⟩
abbrev S232x232 : Shape := ⟨2, ![232, 232]⟩
abbrev S1x232 : Shape := ⟨2, ![1, 232]⟩
abbrev S481x1x232 : Shape := ⟨3, ![481, 1, 232]⟩
abbrev S481x2x232 : Shape := ⟨3, ![481, 2, 232]⟩
abbrev S1x481x2x232 : Shape := ⟨4, ![1, 481, 2, 232]⟩

abbrev nBuf : Space → Nat
  | .hbm => 36
  | .vmem => 7
  | .smem => 0
  | _ => 0

abbrev bufTy : (tb : Table) → Fin (tcTables nBuf tb) → BufTy
  | .hbm, ⟨0, _⟩ => ⟨S16x2x1000x481x2, .f32⟩
  | .hbm, ⟨1, _⟩ => ⟨S1x1x481x1, .f32⟩
  | .hbm, ⟨2, _⟩ => ⟨S16x2x481x2x1000, .f32⟩
  | .hbm, ⟨3, _⟩ => ⟨S32x481x2x1000, .f32⟩
  | .hbm, ⟨4, _⟩ => ⟨S481x1, .f32⟩
  | .hbm, ⟨5, _⟩ => ⟨S256, .f32⟩
  | .hbm, ⟨6, _⟩ => ⟨S256x1, .f32⟩
  | .hbm, ⟨7, _⟩ => ⟨S1x256, .f32⟩
  | .hbm, ⟨8, _⟩ => ⟨S256x256, .f32⟩
  | .hbm, ⟨9, _⟩ => ⟨S256x256, .f32⟩
  | .hbm, ⟨10, _⟩ => ⟨S256x256, .i1⟩
  | .hbm, ⟨11, _⟩ => ⟨S1x256, .f32⟩
  | .hbm, ⟨12, _⟩ => ⟨S256x1, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S1x256, .f32⟩
  | .hbm, ⟨33, _⟩ => ⟨S32x481x2x1000, .f32⟩
  | .hbm, ⟨34, _⟩ => ⟨S16x2x481x2x1000, .f32⟩
  | .hbm, ⟨35, _⟩ => ⟨S16x2x1000x481x2, .f32⟩
  | .local _ .vmem, ⟨0, _⟩ => ⟨S1x481x2x1000, .f32⟩
  | .local _ .vmem, ⟨1, _⟩ => ⟨S1x481x2x1000, .f32⟩
  | .local _ .vmem, ⟨2, _⟩ => ⟨S256x256, .f32⟩
  | .local _ .vmem, ⟨3, _⟩ => ⟨S1x256, .f32⟩
  | .local _ .vmem, ⟨4, _⟩ => ⟨S481x1, .f32⟩
  | .local _ .vmem, ⟨5, _⟩ => ⟨S1x481x2x1000, .f32⟩
  | .local _ .vmem, ⟨6, _⟩ => ⟨S1x481x2x1000, .f32⟩
  | _, _ => ⟨S16x2x1000x481x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x481x2x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S481x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x481x2x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x2x1000x481x2 : Shape := ⟨5, ![16, 2, 1000, 481, 2]⟩
abbrev S1x1x481x1 : Shape := ⟨4, ![1, 1, 481, 1]⟩
abbrev S_ : Shape := ⟨0, ![]⟩
abbrev S16x2x1000x481 : Shape := ⟨4, ![16, 2, 1000, 481]⟩
abbrev S16x2x1000x481x1 : Shape := ⟨5, ![16, 2, 1000, 481, 1]⟩
abbrev S16x2x481x1 : Shape := ⟨4, ![16, 2, 481, 1]⟩
abbrev S1000x16x2x481x1 : Shape := ⟨5, ![1000, 16, 2, 481, 1]⟩
abbrev S1x16x2x481x1 : Shape := ⟨5, ![1, 16, 2, 481, 1]⟩

abbrev nBuf : Space → Nat
  | .hbm => 47
  | .vmem => 0
  | .smem => 0
  | _ => 0

abbrev bufTy : (tb : Table) → Fin (tcTables nBuf tb) → BufTy
  | .hbm, ⟨0, _⟩ => ⟨S16x2x1000x481x2, .f32⟩
  | .hbm, ⟨1, _⟩ => ⟨S1x1x481x1, .f32⟩
  | .hbm, ⟨2, _⟩ => ⟨S16x2x1000x481x2, .f32⟩
  | .hbm, ⟨3, _⟩ => ⟨S_, .f32⟩
  | .hbm, ⟨4, _⟩ => ⟨S16x2x1000x481, .f32⟩
  | .hbm, ⟨5, _⟩ => ⟨S16x2x1000x481x1, .f32⟩
  | .hbm, ⟨6, _⟩ => ⟨S_, .f32⟩
  | .hbm, ⟨7, _⟩ => ⟨S_, .f32⟩
  | .hbm, ⟨8, _⟩ => ⟨S16x2x1000x481x1, .f32⟩
  | .hbm, ⟨9, _⟩ => ⟨S16x2x1000x481x1, .f32⟩
  | .hbm, ⟨10, _⟩ => ⟨S16x2x1000x481x1, .f32⟩
  | .hbm, ⟨11, _⟩ => ⟨S16x2x481x1, .f32⟩
  | .hbm, ⟨12, _⟩ => ⟨S1000x16x2x481x1, .f32⟩
  | .hbm, ⟨13, _⟩ => ⟨S_, .f32⟩
  | .hbm, ⟨14, _⟩ => ⟨S1000x16x2x481x1, .f32⟩
  | .hbm, ⟨15, _⟩ => ⟨S_, .i32⟩
  | .hbm, ⟨16, _⟩ => ⟨S1000x16x2x481x1, .f32⟩
  | .hbm, ⟨17, _⟩ => ⟨S_, .i32⟩
  | .hbm, ⟨18, _⟩ => ⟨S16x2x481x1, .f32⟩
  | .hbm, ⟨19, _⟩ => ⟨S1000x16x2x481x1, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1x16x2x481x1, .f32⟩
  | .hbm, ⟨27, _⟩ => ⟨S16x2x481x1, .f32⟩
  | .hbm, ⟨28, _⟩ => ⟨S_, .f32⟩
  | .hbm, ⟨29, _⟩ => ⟨S16x2x481x1, .f32⟩
  | .hbm, ⟨30, _⟩ => ⟨S16x2x481x1, .f32⟩
  | .hbm, ⟨31, _⟩ => ⟨S_, .f32⟩
  | .hbm, ⟨32, _⟩ => ⟨S16x2x481x1, .f32⟩
  | .hbm, ⟨33, _⟩ => ⟨S16x2x481x1, .f32⟩
  | .hbm, ⟨34, _⟩ => ⟨S16x2x481x1, .f32⟩
  | .hbm, ⟨35, _⟩ => ⟨S1x16x2x481x1, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1000x16x2x481x1, .f32⟩
  | .hbm, ⟨41, _⟩ => ⟨S_, .i32⟩
  | .hbm, ⟨42, _⟩ => ⟨S_, .i32⟩
  | .hbm, ⟨43, _⟩ => ⟨S16x2x1000x481x1, .f32⟩
  | .hbm, ⟨44, _⟩ => ⟨S16x2x1000x481x1, .f32⟩
  | .hbm, ⟨45, _⟩ => ⟨S16x2x1000x481x2, .f32⟩
  | .hbm, ⟨46, _⟩ => ⟨S16x2x1000x481x2, .f32⟩
  | _, _ => ⟨S16x2x1000x481x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_c : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_while0c_c_5 : Ref sig .tc := ⟨.hbm, 20, rfl⟩
abbrev main_while0c_v13 : Ref sig .tc := ⟨.hbm, 21, rfl⟩
abbrev main_while0b_call1_c : Ref sig .tc := ⟨.hbm, 22, rfl⟩
abbrev main_while0b_call1_c_0 : Ref sig .tc := ⟨.hbm, 23, rfl⟩
abbrev main_while0b_call1_c_1 : Ref sig .tc := ⟨.hbm, 24, rfl⟩
abbrev main_while0b_call1_c_2 : Ref sig .tc := ⟨.hbm, 25, rfl⟩
abbrev main_while0b_call1_v0 : Ref sig .tc := ⟨.hbm, 26, rfl⟩
abbrev main_while0b_v13 : Ref sig .tc := ⟨.hbm, 27, rfl⟩
abbrev main_while0b_cst_5 : Ref sig .tc := ⟨.hbm, 28, rfl⟩
abbrev main_while0b_v14 : Ref sig .tc := ⟨.hbm, 29, rfl⟩
abbrev main_while0b_v15 : Ref sig .tc := ⟨.hbm, 30, rfl⟩
abbrev main_while0b_cst_6 : Ref sig .tc := ⟨.hbm, 31, rfl⟩
abbrev main_while0b_v16 : Ref sig .tc := ⟨.hbm, 32, rfl⟩
abbrev main_while0b_v17 : Ref sig .tc := ⟨.hbm, 33, rfl⟩
abbrev main_while0b_v18 : Ref sig .tc := ⟨.hbm, 34, rfl⟩
abbrev main_while0b_call2_v0 : Ref sig .tc := ⟨.hbm, 35, rfl⟩
abbrev main_while0b_call2_c : Ref sig .tc := ⟨.hbm, 36, rfl⟩
abbrev main_while0b_call2_c_0 : Ref sig .tc := ⟨.hbm, 37, rfl⟩
abbrev main_while0b_call2_c_1 : Ref sig .tc := ⟨.hbm, 38, rfl⟩
abbrev main_while0b_call2_c_2 : Ref sig .tc := ⟨.hbm, 39, rfl⟩
abbrev main_while0b_v19 : Ref sig .tc := ⟨.hbm, 40, rfl⟩
abbrev main_while0b_c_7 : Ref sig .tc := ⟨.hbm, 41, rfl⟩
abbrev main_while0b_v20 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩

abbrev nD : Nat := 1
abbrev τ : Topo := Topo.v7x

variable {F : FTy → Type} [FloatOps F]

abbrev main_while0_count : Scf.Loop 32 := ⟨0#32, 1000#32, 1#32⟩
-- ==== Proof.Precondition.lean ====
/- The precondition unpacked: every given state is at least zero. -/
module

public import proofs.«01_k».proof.Proof.Gen.Pre_nonneg
public import proofs.«01_k».proof.Defs
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.Precondition

open Cert.Pre_nonneg Cert.Pre_nonneg.Gen

/-- Where the precondition holds, every given state is at least zero. -/
theorem states_nonneg (X : FVec Ideal S16x2x1000x481x2 .f32) (S : FVec Ideal S1x1x481x1 .f32)
    (h : Cert.Pre_nonneg.fn (F := Ideal) X S = fun _ => 1#1) (f : Fin 481) : 0 ≤ S (ix4 0 0 f 0) := by
  have h0 := congrFun h ix0
  unfold Cert.Pre_nonneg.fn at h0
  have h1 := Host.reduce_andi_all _ _ _ _ _ h0 (ix4 0 0 f 0)
  have h2 : Ideal.cmp .oge (S (ix4 0 0 f 0)) (Ideal.ofBits .f32 0x00000000#32) = 1 := h1
  rw [Ideal.cmp_oge_eq_one] at h2
  have hz : Ideal.ofBits .f32 0x00000000#32 = 0 := by simp [Ideal.ofBits, Ideal.ieee]
  rwa [hz] at h2

end Cert.Precondition
-- ==== Proof.Decay.lean ====
/- The exponentially decaying state of a sequence, and its closed form: what one block of the weighted sums computes.
   Pure arithmetic of the extended reals; no program is mentioned. -/
module

public import Idealize.ShloMosaic.PureOps.Ideal
public import Mathlib.Data.EReal.Operations

@[expose] public section

noncomputable section

namespace Cert.Decay

open Idealize.ShloMosaic

/-- The state before entry `n` is taken in: it starts at `s`, and every entry `m n` is blended in with the weight `b`
    while the state decays by the factor `a`. -/
def state (a b : EReal) (m : ℕ → EReal) (s : EReal) : ℕ → EReal
  | 0 => s
  | n + 1 => m n * b + state a b m s n * a

/-- A run of `p + n` entries is a run of the first `p` followed by a run of `n` that starts where the first ended. -/
theorem state_add (a b : EReal) (m : ℕ → EReal) (s : EReal) (p n : ℕ) :
    state a b m s (p + n) = state a b (fun k => m (p + k)) (state a b m s p) n := by
  induction n with
  | zero => rfl
  | succ n ih => rw [← Nat.add_assoc, state, ih, state]

/-- The states of two sequences that agree on the first `n` entries agree after them. -/
theorem state_congr (a b : EReal) {m m' : ℕ → EReal} (s : EReal) :
    ∀ n : ℕ, (∀ k < n, m k = m' k) → state a b m s n = state a b m' s n
  | 0, _ => rfl
  | n + 1, h => by
    simp only [state]
    rw [h n (Nat.lt_succ_self n), state_congr a b s n fun k hk => h k (Nat.lt_succ_of_lt hk)]

/-- A finite sum of extended reals times a nonnegative real is the sum of the products. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert i s hi ih =>
    rw [Finset.sum_insert hi, Finset.sum_insert hi,
      EReal.right_distrib_of_nonneg_of_ne_top (by exact_mod_cast hr) (EReal.coe_ne_top r), ih]

/-- The state after `n` entries in closed form: entry `k` with the weight `b * a ^ (n - 1 - k)`, the start with `a ^ n`. -/
theorem closed_form {α β : ℝ} (hα : 0 ≤ α) (m : ℕ → EReal) (s : EReal) :
    ∀ n : ℕ, (∑ k ∈ Finset.range n, m k * ((β * α ^ (n - 1 - k) : ℝ) : EReal)) + s * ((α ^ n : ℝ) : EReal)
      = state (α : EReal) (β : EReal) m s n
  | 0 => by simp [state]
  | n + 1 => by
    rw [state, ← closed_form hα m s n,
      EReal.right_distrib_of_nonneg_of_ne_top (by exact_mod_cast hα) (EReal.coe_ne_top α), sum_mul_coe _ _ hα,
      Finset.sum_range_succ, mul_assoc s, ← EReal.coe_mul, ← pow_succ, ← add_assoc, add_comm (m n * _)]
    congr 2
    · refine Finset.sum_congr rfl fun k hk => ?_
      have hk' := Finset.mem_range.1 hk
      rw [mul_assoc, ← EReal.coe_mul, mul_assoc, ← pow_succ]
      congr 4
      omega
    · simp

/-- The weight of entry `k` in the state after entry `j`. -/
def weight (α β : ℝ) (k j : ℕ) : EReal := if k ≤ j then ((β * α ^ (j - k) : ℝ) : EReal) else 0

/-- One block: the weighted sum over a block of `L` entries, plus the carried state decayed over `j + 1` entries, is the
    state after entry `j` of the block. -/
theorem block_sum {α β : ℝ} (hα : 0 ≤ α) (m : ℕ → EReal) (s : EReal) {L j : ℕ} (hj : j < L) :
    (∑ k : Fin L, m k.val * weight α β k.val j) + s * ((α ^ (j + 1) : ℝ) : EReal)
      = state (α : EReal) (β : EReal) m s (j + 1) := by
  rw [← closed_form hα m s (j + 1), Fin.sum_univ_eq_sum_range (fun k => m k * weight α β k j) L]
  congr 1
  have hsub : Finset.range (j + 1) ⊆ Finset.range L := by
    intro x hx
    rw [Finset.mem_range] at hx ⊢
    omega
  rw [← Finset.sum_subset hsub]
  · refine Finset.sum_congr rfl fun k hk => ?_
    have hk' := Finset.mem_range.1 hk
    rw [weight, if_pos (by omega), Nat.add_sub_cancel]
  · intro k _ hk
    rw [Finset.mem_range] at hk
    rw [weight, if_neg (by omega), mul_zero]

/-- Blending positive entries keeps a nonnegative state positive. -/
theorem state_pos {α β : ℝ} (hα : 0 ≤ α) (hβ : 0 < β) {m : ℕ → EReal} (hm : ∀ k, 0 < m k) {s : EReal} (hs : 0 ≤ s) :
    ∀ n : ℕ, 0 < state (α : EReal) (β : EReal) m s (n + 1) := by
  have key : ∀ n, 0 ≤ state (α : EReal) (β : EReal) m s n → 0 < state (α : EReal) (β : EReal) m s (n + 1) := by
    intro n hn
    have h1 : 0 < m n * (β : EReal) := EReal.mul_pos (hm n) (by exact_mod_cast hβ)
    have h2 : 0 ≤ state (α : EReal) (β : EReal) m s n * (α : EReal) := mul_nonneg hn (by exact_mod_cast hα)
    exact lt_of_lt_of_le h1 (le_add_of_nonneg_right h2)
  intro n
  induction n with
  | zero => exact key 0 hs
  | succ n ih => exact key (n + 1) ih.le

/-- Over a positive state (it may be `⊤`) the product with the reciprocal root is the quotient by the root. -/
theorem mul_rsqrt (x : EReal) {s : EReal} (hs : 0 < s) : x * Ideal.rsqrt s = Ideal.div x (Ideal.sqrt s) := by
  induction s using EReal.rec with
  | bot => exact absurd hs (by simp)
  | top =>
    show x * (0 : EReal) = Ideal.div x ⊤
    rw [Ideal.div, if_neg (by simp)]
    simp
  | coe r =>
    have hr : 0 < r := by exact_mod_cast hs
    have hq : 0 < Real.sqrt r := Real.sqrt_pos.2 hr
    show x * (if r < 0 then (⊥ : EReal) else if r = 0 then ⊤ else ((Real.sqrt r)⁻¹ : ℝ)) = Ideal.div x (if r < 0 then (⊥ : EReal) else (Real.sqrt r : EReal))
    rw [if_neg hr.not_gt, if_neg hr.ne', if_neg hr.not_gt, Ideal.div, if_neg (by exact_mod_cast hq.ne'), EReal.coe_inv]

/-- The root of a positive value is positive. -/
theorem sqrt_pos {s : EReal} (hs : 0 < s) : 0 < Ideal.sqrt s := by
  induction s using EReal.rec with
  | bot => exact absurd hs (by simp)
  | top => show (0 : EReal) < ⊤; simp
  | coe r =>
    have hr : 0 < r := by exact_mod_cast hs
    show (0 : EReal) < (if r < 0 then (⊥ : EReal) else (Real.sqrt r : EReal))
    rw [if_neg hr.not_gt]
    exact_mod_cast Real.sqrt_pos.2 hr

end Cert.Decay

end
-- ==== Proof.Spec.lean ====
/- What both programs compute, as functions of the two arguments: the magnitude of an entry, the running state of a
   frequency, the normalised entry. -/
module

public import proofs.«01_k».proof.Proof.Decay
public import proofs.«01_k».proof.Defs
public import Idealize.ShloMosaic.Lib.Pointwise

@[expose] public section

set_option maxRecDepth 16384

noncomputable section

namespace Cert.Spec

open Idealize.ShloMosaic

/-- The decay factor: the value of the f32 word of 0.99. -/
def decay : EReal := Ideal.ofBits .f32 0x3F7D70A4#32
/-- The blending weight: the value of the f32 word of 0.01. -/
def blend : EReal := Ideal.ofBits .f32 0x3C23D70A#32
/-- The floor under a squared magnitude: the value of the f32 word of 1e-14. -/
def floor : EReal := Ideal.ofBits .f32 0x283424DC#32

/-- The decay factor and the blending weight as real numbers. -/
def decayR : ℝ := 16609444 * 2 ^ (-24 : ℤ)
def blendR : ℝ := 10737418 * 2 ^ (-30 : ℤ)

theorem decayR_pos : 0 < decayR := by unfold decayR; positivity
theorem blendR_pos : 0 < blendR := by unfold blendR; positivity

theorem decay_eq : decay = (decayR : EReal) := by
  unfold decay decayR
  simp [Ideal.ofBits, Ideal.ieee, -EReal.coe_mul]

theorem blend_eq : blend = (blendR : EReal) := by
  unfold blend blendR
  simp [Ideal.ofBits, Ideal.ieee, -EReal.coe_mul]

theorem floor_pos : 0 < floor := by
  have h : floor = ((11805916 * 2 ^ (-70 : ℤ) : ℝ) : EReal) := by
    unfold floor
    simp [Ideal.ofBits, Ideal.ieee, -EReal.coe_mul]
  rw [h]
  exact EReal.coe_pos.2 (by positivity)

/-- The magnitude of the entry of item `b`, channel `c`, time `t` (counted modulo the 1000 times) and frequency `f`: the
    root of the floored sum of the two squared components. -/
def mag (X : FVec Ideal ⟨5, ![16, 2, 1000, 481, 2]⟩ .f32) (b : Fin 16) (c : Fin 2) (f : Fin 481) (t : ℕ) : EReal :=
  Ideal.sqrt (max floor (X (ix5 b c ⟨t % 1000, Nat.mod_lt _ (by decide)⟩ f 0) * X (ix5 b c ⟨t % 1000, Nat.mod_lt _ (by decide)⟩ f 0)
    + X (ix5 b c ⟨t % 1000, Nat.mod_lt _ (by decide)⟩ f 1) * X (ix5 b c ⟨t % 1000, Nat.mod_lt _ (by decide)⟩ f 1)))

/-- A magnitude is positive: the floor is. -/
theorem mag_pos (X : FVec Ideal ⟨5, ![16, 2, 1000, 481, 2]⟩ .f32) (b : Fin 16) (c : Fin 2) (f : Fin 481) (t : ℕ) :
    0 < mag X b c f t :=
  Decay.sqrt_pos (lt_of_lt_of_le floor_pos (le_max_left _ _))

/-- The running state of one item, channel and frequency before time `n`. -/
def run (X : FVec Ideal ⟨5, ![16, 2, 1000, 481, 2]⟩ .f32) (S : FVec Ideal ⟨4, ![1, 1, 481, 1]⟩ .f32)
    (b : Fin 16) (c : Fin 2) (f : Fin 481) (n : ℕ) : EReal :=
  Decay.state decay blend (mag X b c f) (S (ix4 0 0 f 0)) n

/-- The normalised entry: the entry over the root of the state after its time. -/
def unit (X : FVec Ideal ⟨5, ![16, 2, 1000, 481, 2]⟩ .f32) (S : FVec Ideal ⟨4, ![1, 1, 481, 1]⟩ .f32)
    (b : Fin 16) (c : Fin 2) (t : Fin 1000) (f : Fin 481) (p : Fin 2) : EReal :=
  Ideal.div (X (ix5 b c t f p)) (Ideal.sqrt (run X S b c f (t.val + 1)))

/-- From a nonnegative start every later state is positive. -/
theorem run_pos (X : FVec Ideal ⟨5, ![16, 2, 1000, 481, 2]⟩ .f32) (S : FVec Ideal ⟨4, ![1, 1, 481, 1]⟩ .f32)
    (b : Fin 16) (c : Fin 2) (f : Fin 481) (hS : 0 ≤ S (ix4 0 0 f 0)) (n : ℕ) : 0 < run X S b c f (n + 1) := by
  unfold run
  rw [decay_eq, blend_eq]
  exact Decay.state_pos decayR_pos.le blendR_pos (mag_pos X b c f) hS n

/-- One block of the run: the weighted sum of the magnitudes of `L` times from time `o` on, plus the state at time `o` decayed
    over `j + 1` times, is the state after time `o + j`. -/
theorem block_run (X : FVec Ideal ⟨5, ![16, 2, 1000, 481, 2]⟩ .f32) (S : FVec Ideal ⟨4, ![1, 1, 481, 1]⟩ .f32)
    (b : Fin 16) (c : Fin 2) (f : Fin 481) (o : ℕ) {L j : ℕ} (hj : j < L) :
    (∑ k : Fin L, mag X b c f (o + k.val) * Decay.weight decayR blendR k.val j)
        + run X S b c f o * ((decayR ^ (j + 1) : ℝ) : EReal)
      = run X S b c f (o + (j + 1)) := by
  rw [Decay.block_sum decayR_pos.le (fun k => mag X b c f (o + k)) _ hj]
  unfold run
  rw [Decay.state_add _ _ _ _ o, decay_eq, blend_eq]

/-- The normalised entries of the whole input. -/
def whole (X : FVec Ideal ⟨5, ![16, 2, 1000, 481, 2]⟩ .f32) (S : FVec Ideal ⟨4, ![1, 1, 481, 1]⟩ .f32) :
    FVec Ideal ⟨5, ![16, 2, 1000, 481, 2]⟩ .f32 := fun i => unit X S (i 0) (i 1) (i 2) (i 3) (i 4)

/-- An array with the normalised entry at every index is the array of normalised entries. -/
theorem eq_whole (X : FVec Ideal ⟨5, ![16, 2, 1000, 481, 2]⟩ .f32) (S : FVec Ideal ⟨4, ![1, 1, 481, 1]⟩ .f32)
    (R : FVec Ideal ⟨5, ![16, 2, 1000, 481, 2]⟩ .f32) (h : ∀ b c t f p, R (ix5 b c t f p) = unit X S b c t f p) : R = whole X S := by
  funext i
  idx_vars i
  exact h _ _ _ _ _

end Cert.Spec

end
-- ==== Proof.Reference.lean ====
/- What the reference computes: its loop's states read at an index are the running states of `Spec`, so its result is the
   normalised entry. -/
module

public import proofs.«01_k».proof.Proof.Spec
public import proofs.«01_k».proof.Proof.Gen.ReferenceIdeal.Run
public import proofs.«01_k».proof.Proof.Gen.ReferenceIdeal.Step
public import Idealize.ShloMosaic.Lib.DynamicIndex
public import Idealize.ShloMosaic.Lib.WordCmp
public import Idealize.ShloMosaic.Lib.Quiescent

@[expose] public section

set_option maxRecDepth 16384

noncomputable section

open Idealize.ShloMosaic Idealize.ShloMosaic.TcCoe Idealize.ShloMosaic.Tactic
open Idealize.SL.Sem Idealize.ShloMosaic.StableHlo

namespace Cert.Reference

open Cert.ReferenceIdeal Cert.ReferenceIdeal.Gen Cert.ReferenceIdeal.Step

variable (X : FVec Ideal S16x2x1000x481x2 .f32) (S : FVec Ideal S1x1x481x1 .f32)

/-- The loop's constant: the magnitudes, time first. -/
theorem mags_at (t : Fin 1000) (b : Fin 16) (c : Fin 2) (f : Fin 481) :
    A_main_v6 (F := Ideal) X S (ix5 t b c f 0) = Spec.mag X b c f t.val := by
  have ht : (⟨t.val % 1000, Nat.mod_lt _ (by decide)⟩ : Fin 1000) = t := Fin.ext (Nat.mod_eq_of_lt t.isLt)
  unfold Spec.mag
  rw [ht]
  pointwise [A_main_v6, A_main_v4, A_main_v3, A_main_v2, A_main_v1, A_main_v0, K_main_cst, K_main_call0_v1, K_main_call0_v0, K_main_cst_0]
  rw [Fin.sum_univ_two]
  exact congrArg Ideal.sqrt rfl

/-- One time of the loop's array fits at every time. -/
theorem fits (n : ℕ) (hn : n < 1000) : S1000x16x2x481x1.Slices ![n, 0, 0, 0, 0] S1x16x2x481x1 := by
  refine ⟨rfl, fun a => ?_⟩
  match a with
  | ⟨0, _⟩ => show n + 1 ≤ 1000; omega
  | ⟨1, _⟩ => exact (by decide : 0 + 16 ≤ 16)
  | ⟨2, _⟩ => exact (by decide : 0 + 2 ≤ 2)
  | ⟨3, _⟩ => exact (by decide : 0 + 481 ≤ 481)
  | ⟨4, _⟩ => exact (by decide : 0 + 1 ≤ 1)

/-- The trip counter as the start of a slice. -/
theorem start_at (n : ℕ) (hn : n < 1000) (w : Fin 5 → (⟨S_, .i32⟩ : BufTy).Contents (Elt Ideal))
    (hw : w = ![constantI S_ 32 (BitVec.ofNat 32 n), constantI S_ 32 0#32, constantI S_ 32 0#32, constantI S_ 32 0#32, constantI S_ 32 0#32])
    (a : Fin 5) : (w a (Shape.Idx.first h_S_)).toInt = ((![n, 0, 0, 0, 0] : Fin 5 → ℕ) a : Int) := by
  subst hw
  match a with
  | ⟨0, _⟩ => exact toInt_ofNat_of_lt (by omega)
  | ⟨1, _⟩ => rfl
  | ⟨2, _⟩ => rfl
  | ⟨3, _⟩ => rfl
  | ⟨4, _⟩ => rfl

/-- The slice a trip reads is the array at its time. -/
theorem slice_at (M : FVec Ideal S1000x16x2x481x1 .f32) (n : ℕ) (hn : n < 1000) (start : Fin 5 → Int)
    (hstart : ∀ a, start a = ((![n, 0, 0, 0, 0] : Fin 5 → ℕ) a : Int)) (h) (b : Fin 16) (c : Fin 2) (f : Fin 481) :
    Host.dynamicSlice S1x16x2x481x1 M start h (ix5 0 b c f 0) = M (ix5 ⟨n, hn⟩ b c f 0) := by
  rw [WordCmp.dynamicSlice_eq_extract _ _ _ _ ![n, 0, 0, 0, 0] (fits n hn) hstart]
  unfold extractStridedSlice
  refine congrArg M (funext fun a => Fin.ext ?_)
  match a with
  | ⟨0, _⟩ => rfl
  | ⟨1, _⟩ => exact Nat.zero_add _
  | ⟨2, _⟩ => exact Nat.zero_add _
  | ⟨3, _⟩ => exact Nat.zero_add _
  | ⟨4, _⟩ => rfl

/-- What a trip writes: the update at its time, every other time as it was. -/
theorem update_at (M : FVec Ideal S1000x16x2x481x1 .f32) (U : FVec Ideal S1x16x2x481x1 .f32) (n : ℕ) (hn : n < 1000) (start : Fin 5 → Int)
    (hstart : ∀ a, start a = ((![n, 0, 0, 0, 0] : Fin 5 → ℕ) a : Int)) (h) (t : Fin 1000) (b : Fin 16) (c : Fin 2) (f : Fin 481) :
    Host.dynamicUpdateSlice M U start h (ix5 t b c f 0) = if t.val = n then U (ix5 0 b c f 0) else M (ix5 t b c f 0) := by
  rw [WordCmp.dynamicUpdateSlice_eq_update _ _ _ _ ![n, 0, 0, 0, 0] (fits n hn) hstart]
  unfold updateSlice
  by_cases ht : t.val = n
  · rw [if_pos ht, dif_pos]
    · refine congrArg U (funext fun a => Fin.ext ?_)
      match a with
      | ⟨0, _⟩ => show t.val - n = 0; omega
      | ⟨1, _⟩ => rfl
      | ⟨2, _⟩ => rfl
      | ⟨3, _⟩ => rfl
      | ⟨4, _⟩ => rfl
    · intro a
      match a with
      | ⟨0, _⟩ => show n ≤ t.val ∧ t.val < n + 1; omega
      | ⟨1, _⟩ => show 0 ≤ b.val ∧ b.val < 0 + 16; omega
      | ⟨2, _⟩ => show 0 ≤ c.val ∧ c.val < 0 + 2; omega
      | ⟨3, _⟩ => show 0 ≤ f.val ∧ f.val < 0 + 481; omega
      | ⟨4, _⟩ => show 0 ≤ 0 ∧ 0 < 0 + 1; omega
  · rw [if_neg ht, dif_neg]
    intro hin
    have q : (0 : ℕ) < 5 := by decide
    have h0 : n ≤ t.val ∧ t.val < n + 1 := hin ⟨0, q⟩
    omega

/-- What the loop carries after `n` trips, in terms of the running states. -/
structure Holds (V : Valuation τ sig (Elt Ideal)) (n : ℕ) : Prop where
  mags : V (Proc.devRef .tc main_v8_0) = A_main_v6 (F := Ideal) X S
  count : V (Proc.devRef .tc main_v8_1) = constantI S_ 32 (BitVec.ofNat 32 n)
  now : ∀ b c f, (V (Proc.devRef .tc main_v8_2) : FVec Ideal S16x2x481x1 .f32) (ix4 b c f 0) = Spec.run X S b c f n
  past : ∀ (t : Fin 1000) b c f, t.val < n → (V (Proc.devRef .tc main_v8_3) : FVec Ideal S1000x16x2x481x1 .f32) (ix5 t b c f 0) = Spec.run X S b c f (t.val + 1)

variable {X S}

/-- A trip's arithmetic at one state. -/
theorem trip_at (D : FVec Ideal S1x16x2x481x1 .f32) (P : FVec Ideal S16x2x481x1 .f32) (b : Fin 16) (c : Fin 2) (f : Fin 481) :
    (addf (mulf (shapeCast S16x2x481x1 D shapeCasts_S1x16x2x481x1_S16x2x481x1) (broadcastInDim S16x2x481x1 ![] bcast_S_S16x2x481x1 (constant S_ .f32 0x3C23D70A#32))) (mulf P (broadcastInDim S16x2x481x1 ![] bcast_S_S16x2x481x1 (constant S_ .f32 0x3F7D70A4#32))) : FVec Ideal S16x2x481x1 .f32) (ix4 b c f 0)
      = D (ix5 0 b c f 0) * Spec.blend + P (ix4 b c f 0) * Spec.decay := by
  pointwise
  rfl

/-- The state a trip computes is the running state one entry later. -/
theorem next_at {V : Valuation τ sig (Elt Ideal)} {n : ℕ} (hn : n < 1000) (h : Holds X S V n) (b : Fin 16) (c : Fin 2) (f : Fin 481) :
    (Value.res_main_while0b_v18 V : FVec Ideal S16x2x481x1 .f32) (ix4 b c f 0) = Spec.run X S b c f (n + 1) := by
  unfold Value.res_main_while0b_v18
  rw [h.mags, h.count]
  refine (trip_at _ _ b c f).trans ?_
  exact congrArg₂ (fun x y => x * Spec.blend + y * Spec.decay)
    ((slice_at _ n hn _ (fun a => start_at n hn _ rfl a) _ b c f).trans (mags_at X S ⟨n, hn⟩ b c f)) (h.now b c f)

/-- One trip. -/
theorem step {V : Valuation τ sig (Elt Ideal)} {n : ℕ} (hn : n < 1000) (h : Holds X S V n) : Holds X S (Value.STEP V) (n + 1) where
  mags := (Value.STEP_main_v8_0 V).trans h.mags
  count := by
    rw [Value.STEP_main_v8_1]
    unfold Value.step_main_v8_1
    rw [h.count]
    funext i
    show BitVec.ofNat 32 n + 1#32 = BitVec.ofNat 32 (n + 1)
    simp only [BitVec.ofNat_add]
  now b c f := by
    rw [Value.STEP_main_v8_2]
    exact next_at hn h b c f
  past t b c f ht := by
    rw [Value.STEP_main_v8_3]
    unfold Value.step_main_v8_3
    refine (update_at _ _ n hn _ (fun a => start_at n hn _ (by rw [h.count]) a) _ t b c f).trans ?_
    split
    · rename_i e
      rw [e]
      refine Eq.trans ?_ (next_at hn h b c f)
      pointwise
    · exact h.past t b c f (by omega)

variable (m : (l : Loc nD τ sig) → l.2.ty.Contents (Elt Ideal)) (d : Dev nD)

set_option maxRecDepth 65536 in
/-- The magnitudes before the first trip. -/
theorem entry_mags : entryContents Value.preI m d (Proc.devRef .tc main_v8_0)
    = A_main_v6 (F := Ideal) (m (d, Proc.devRef .tc main_arg0)) (m (d, Proc.devRef .tc main_arg1)) := by
  simp only [entryContents, afterL_cons, afterL_nil]
  after_reads_simp
  rfl

set_option maxRecDepth 65536 in
/-- The counter before the first trip. -/
theorem entry_count : entryContents Value.preI m d (Proc.devRef .tc main_v8_1) = constantI S_ 32 (BitVec.ofNat 32 0) := by
  simp only [entryContents, afterL_cons, afterL_nil]
  after_reads_simp
  rfl

set_option maxRecDepth 65536 in
/-- The states before the first trip. -/
theorem entry_now : entryContents Value.preI m d (Proc.devRef .tc main_v8_2)
    = A_main_v5 (F := Ideal) (m (d, Proc.devRef .tc main_arg0)) (m (d, Proc.devRef .tc main_arg1)) := by
  simp only [entryContents, afterL_cons, afterL_nil]
  after_reads_simp
  rfl

/-- What the loop carries before the first trip. -/
theorem entry : Holds (m (d, Proc.devRef .tc main_arg0)) (m (d, Proc.devRef .tc main_arg1)) (entryContents Value.preI m d) 0 where
  mags := entry_mags m d
  count := entry_count m d
  now b c f := by
    rw [entry_now]
    pointwise [A_main_v5]
    rfl
  past t b c f ht := absurd ht (Nat.not_lt_zero _)

/-- What the loop carries after `n` trips. -/
theorem holds : ∀ n ≤ 1000, Holds (m (d, Proc.devRef .tc main_arg0)) (m (d, Proc.devRef .tc main_arg1)) (Value.STEP^[n] (entryContents Value.preI m d)) n
  | 0, _ => entry m d
  | n + 1, hn => by
    rw [Function.iterate_succ_apply']
    exact step (by omega) (holds n (by omega))

/-- The reference's result at an index: the entry normalised by its running state. -/
theorem result_at (b : Fin 16) (c : Fin 2) (t : Fin 1000) (f : Fin 481) (p : Fin 2) :
    (Value.out_main_v12 (Value.STEP^[1000] (entryContents Value.preI m d)) : FVec Ideal S16x2x1000x481x2 .f32) (ix5 b c t f p)
      = Spec.unit (m (d, Proc.devRef .tc main_arg0)) (m (d, Proc.devRef .tc main_arg1)) b c t f p := by
  unfold Value.out_main_v12 Spec.unit
  rw [Value.iter_main_arg0, ← (holds m d 1000 le_rfl).past t b c f t.isLt]
  pointwise

/-- The reference ends with the normalised entries as its result and its arguments as launched. -/
theorem run (ρ : Dev nD → PrngReg) :
    θ_run defs (onTc (τ := τ) (main (F := Ideal))) ⟨m, fun _ => 0, ρ⟩ (fun r => ∀ d : Dev nD,
      (∀ b c t f p, (r.2.mem ((d.tc : Thread nD τ).loc main_v12) : FVec Ideal S16x2x1000x481x2 .f32) (ix5 b c t f p)
        = Spec.unit (m (d, Proc.devRef .tc main_arg0)) (m (d, Proc.devRef .tc main_arg1)) b c t f p)
      ∧ r.2.mem ((d.tc : Thread nD τ).loc main_arg0) = m ((d.tc : Thread nD τ).loc main_arg0)
      ∧ r.2.mem ((d.tc : Thread nD τ).loc main_arg1) = m ((d.tc : Thread nD τ).loc main_arg1)) :=
  (θ_run defs _ _).mono (fun _ h d => ⟨fun b c t f p =>
      (congrArg (fun A : FVec Ideal S16x2x1000x481x2 .f32 => A (ix5 b c t f p)) (h d).1).trans (result_at m d b c t f p), (h d).2⟩)
    (Value.run m ρ)

end Cert.Reference

end
-- ==== Proof.Block.lean ====
/- What one block of the kernel computes: each chunk's row of weighted magnitudes plus the carried state is the running
   states of the chunk, and what is stored is the block's entries normalised by them. -/
module

public import proofs.«01_k».proof.Proof.Spec
public import proofs.«01_k».proof.Proof.Gen.KernelIdeal.Skeleton

@[expose] public section

set_option maxRecDepth 16384

noncomputable section

open Idealize.ShloMosaic Idealize.ShloMosaic.TcCoe

namespace Cert.Block

open Cert.KernelIdeal Cert.KernelIdeal.Gen

/-- The tables and the block a grid point works on: the table `U` holds the weights, the row `A` the powers of the decay,
    the block `v0` one batch and channel of the input, the column `s` the given states. -/
structure Reads (X : FVec Ideal ⟨5, ![16, 2, 1000, 481, 2]⟩ .f32) (S : FVec Ideal ⟨4, ![1, 1, 481, 1]⟩ .f32) (b : Fin 16) (c : Fin 2)
    (v0 : Vec Ideal S1x481x2x1000 .f32) (s : Vec Ideal S481x1 .f32) (U : Vec Ideal S256x256 .f32) (A : Vec Ideal S1x256 .f32) : Prop where
  entry : ∀ (f : Fin 481) (p : Fin 2) (t : Fin 1000), (v0 : FVec Ideal S1x481x2x1000 .f32) (ix4 0 f p t) = X (ix5 b c t f p)
  state : ∀ f : Fin 481, (s : FVec Ideal S481x1 .f32) (ix2 f 0) = S (ix4 0 0 f 0)
  table : ∀ k j : Fin 256, (U : FVec Ideal S256x256 .f32) (ix2 k j) = Decay.weight Spec.decayR Spec.blendR k.val j.val
  row : ∀ j : Fin 256, (A : FVec Ideal S1x256 .f32) (ix2 0 j) = ((Spec.decayR ^ (j.val + 1) : ℝ) : EReal)

variable {X : FVec Ideal ⟨5, ![16, 2, 1000, 481, 2]⟩ .f32} {S : FVec Ideal ⟨4, ![1, 1, 481, 1]⟩ .f32} {b : Fin 16} {c : Fin 2}
variable {v0 : Vec Ideal S1x481x2x1000 .f32} {s : Vec Ideal S481x1 .f32} {U : Vec Ideal S256x256 .f32} {A : Vec Ideal S1x256 .f32}

/-- The block's magnitudes. -/
theorem mag_at (h : Reads X S b c v0 s U A) (f : Fin 481) (t : Fin 1000) :
    k0_pay6 (F := Ideal) v0 (ix2 f t) = Spec.mag X b c f t.val := by
  have ht : (⟨t.val % 1000, Nat.mod_lt _ (by decide)⟩ : Fin 1000) = t := Fin.ext (Nat.mod_eq_of_lt t.isLt)
  unfold Spec.mag
  rw [ht, ← h.entry, ← h.entry, max_comm]
  pointwise [k0_pay6, k0_pay5]
  rfl

/-- One entry of a chunk that starts at time `o`: the weighted magnitudes plus the carried state times the power of the decay
    is the running state at that entry. -/
theorem chunk (f : Fin 481) (o : ℕ) {L : ℕ} (j : Fin L) (M W : Fin L → EReal) (s0 a : EReal) (hM : ∀ k, M k = Spec.mag X b c f (o + k.val))
    (hW : ∀ k, W k = Decay.weight Spec.decayR Spec.blendR k.val j.val) (hs : s0 = Spec.run X S b c f o)
    (ha : a = ((Spec.decayR ^ (j.val + 1) : ℝ) : EReal)) :
    (∑ k, M k * W k) + s0 * a = Spec.run X S b c f (o + (j.val + 1)) := by
  rw [← Spec.block_run X S b c f o j.isLt, hs, ha]
  exact congrArg (· + _) (Finset.sum_congr rfl fun k _ => by rw [hM, hW])

/-- The table as the chunks take it. -/
theorem same_table (U : Vec Ideal S256x256 .f32) : k0_pay7 (F := Ideal) U = U := shapeCast_self _ _

/-- The row as the chunks take it. -/
theorem same_row (A : Vec Ideal S1x256 .f32) : k0_pay8 (F := Ideal) A = A := shapeCast_self _ _

/-- Before the first entry the state is the given one. -/
theorem start (X : FVec Ideal ⟨5, ![16, 2, 1000, 481, 2]⟩ .f32) (S : FVec Ideal ⟨4, ![1, 1, 481, 1]⟩ .f32) (b : Fin 16) (c : Fin 2) (f : Fin 481) :
    Spec.run X S b c f 0 = S (ix4 0 0 f 0) := by
  unfold Spec.run
  rw [Decay.state]

/-- The states of the first chunk. -/
theorem states0 (h : Reads X S b c v0 s U A) (f : Fin 481) (j : Fin 256) :
    k0_pay9 (F := Ideal) v0 s U A (ix2 f j) = Spec.run X S b c f (j.val + 1) := by
  pointwise [k0_pay9, k0_pay7, k0_pay8]
  refine Eq.trans ?_ (congrArg (Spec.run X S b c f) (Nat.zero_add (j.val + 1)))
  exact chunk f 0 j _ _ _ _ (fun k => (mag_at h f _).trans (congrArg (Spec.mag X b c f) (Nat.zero_add k.val).symm)) (fun k => h.table k j) ((h.state f).trans (start X S b c f).symm) (h.row j)

/-- The states of the second chunk. -/
theorem states1 (h : Reads X S b c v0 s U A) (f : Fin 481) (j : Fin 256) :
    k0_pay11 (F := Ideal) v0 s U A (ix2 f j) = Spec.run X S b c f (256 + (j.val + 1)) := by
  pointwise [k0_pay11, k0_pay7, k0_pay8]
  exact chunk f 256 j _ _ _ _ (fun k => mag_at h f _) (fun k => h.table k j) (states0 h f 255) (h.row j)

/-- The state the second chunk hands on. -/
theorem carried (h : Reads X S b c v0 s U A) (f : Fin 481) :
    k0_pay12 (F := Ideal) v0 s U A (ix2 f 0) = Spec.run X S b c f 512 := by
  pointwise [k0_pay12]
  exact states1 h f 255

/-- The states of the third chunk. -/
theorem states2 (h : Reads X S b c v0 s U A) (f : Fin 481) (j : Fin 256) :
    k0_pay2 (F := Ideal) (k0_pay6 v0) (k0_pay7 U) (k0_pay8 A) (k0_pay12 v0 s U A) (ix2 f j) = Spec.run X S b c f (512 + (j.val + 1)) := by
  pointwise [k0_pay2, k0_pay7, k0_pay8]
  exact chunk f 512 j _ _ _ _ (fun k => mag_at h f _) (fun k => h.table k j) (carried h f) (h.row j)

/-- An entry times the reciprocal root of its state is the normalised entry. -/
theorem scaled (h : Reads X S b c v0 s U A) (hS : ∀ f : Fin 481, 0 ≤ S (ix4 0 0 f 0)) (f : Fin 481) (p : Fin 2) (t : Fin 1000) (q : EReal)
    (hq : q = Spec.run X S b c f (t.val + 1)) :
    (v0 : FVec Ideal S1x481x2x1000 .f32) (ix4 0 f p t) * Ideal.rsqrt q = Spec.unit X S b c t f p := by
  rw [hq, h.entry, Decay.mul_rsqrt _ (Spec.run_pos X S b c f (hS f) t.val)]
  rfl

/-- What is stored of the first chunk. -/
theorem stored0 (h : Reads X S b c v0 s U A) (hS : ∀ f : Fin 481, 0 ≤ S (ix4 0 0 f 0)) (f : Fin 481) (p : Fin 2) (j : Fin 256) :
    k0_pay10 (F := Ideal) v0 s U A (ix4 0 f p j) = Spec.unit X S b c ⟨j.val, by omega⟩ f p := by
  pointwise [k0_pay10, k0_pay5]
  exact scaled h hS f p _ _ (states0 h f j)

/-- What is stored of the second chunk. -/
theorem stored1 (h : Reads X S b c v0 s U A) (hS : ∀ f : Fin 481, 0 ≤ S (ix4 0 0 f 0)) (f : Fin 481) (p : Fin 2) (j : Fin 256) :
    k0_pay1 (F := Ideal) (k0_pay5 v0) (k0_pay13 v0 s U A) (ix4 0 f p j) = Spec.unit X S b c ⟨256 + j.val, by omega⟩ f p := by
  pointwise [k0_pay1, k0_pay13, k0_pay5]
  exact scaled h hS f p _ _ (states1 h f j)

/-- What is stored of the third chunk. -/
theorem stored2 (h : Reads X S b c v0 s U A) (hS : ∀ f : Fin 481, 0 ≤ S (ix4 0 0 f 0)) (f : Fin 481) (p : Fin 2) (j : Fin 256) :
    k0_pay3 (F := Ideal) (k0_pay5 v0) (k0_pay6 v0) (k0_pay7 U) (k0_pay8 A) (k0_pay12 v0 s U A) (ix4 0 f p j)
      = Spec.unit X S b c ⟨512 + j.val, by omega⟩ f p := by
  pointwise [k0_pay3, k0_pay5]
  exact scaled h hS f p _ _ (states2 h f j)

/-- What is stored of the last chunk. -/
theorem stored3 (h : Reads X S b c v0 s U A) (hS : ∀ f : Fin 481, 0 ≤ S (ix4 0 0 f 0)) (f : Fin 481) (p : Fin 2) (j : Fin 232) :
    k0_pay4 (F := Ideal) (k0_pay5 v0) (k0_pay6 v0) (k0_pay7 U) (k0_pay8 A) (k0_pay12 v0 s U A) (ix4 0 f p j)
      = Spec.unit X S b c ⟨768 + j.val, by omega⟩ f p := by
  have hc := states2 h f 255
  rw [same_table, same_row] at hc ⊢
  pointwise [k0_pay4, k0_pay5]
  refine scaled h hS f p _ _ ?_
  exact chunk f 768 j _ _ _ _ (fun k => mag_at h f _) (fun k => h.table _ _) hc (h.row _)

end Cert.Block
-- ==== Proof.Tables.lean ====
/- What the kernel's operands hold when it starts: the input with a batch and a channel on one axis, the given states as a
   column, the table of weights and the row of the decay's powers. -/
module

public import proofs.«01_k».proof.Proof.Spec
public import proofs.«01_k».proof.Proof.Gen.KernelIdeal.Frame
public import Idealize.ShloMosaic.Lib.Pipeline.ValueKit
public import Idealize.ShloMosaic.Lib.DynamicIndex

@[expose] public section

set_option maxRecDepth 16384

noncomputable section

open Idealize.ShloMosaic Idealize.ShloMosaic.TcCoe Idealize.SL.Sem

open Idealize.ShloMosaic.StableHlo Idealize.ShloMosaic.Tactic

namespace Cert.Tables

open Cert.KernelIdeal Cert.KernelIdeal.Gen

variable (m : (ℓ : Loc nD τ sig) → Buf (Elt Ideal) ℓ) (d : Dev nD)

/-- The input as the kernel takes it. -/
theorem entries (n : Fin 32) (f : Fin 481) (p : Fin 2) (t : Fin 1000) :
    (V m d main_v1 : FVec Ideal S32x481x2x1000 .f32) (ix4 n f p t)
      = (m ((d : Thread nD τ).loc main_arg0) : FVec Ideal S16x2x1000x481x2 .f32) (ix5 ⟨n.val / 2, by omega⟩ ⟨n.val % 2, by omega⟩ t f p) := by
  unfold V V0
  simp only [List.flatten_cons, List.flatten_nil, List.append_nil, List.cons_append, List.nil_append]
  after_results
  pointwise

/-- The given states as the kernel takes them. -/
theorem states (f : Fin 481) :
    (V m d main_v2 : FVec Ideal S481x1 .f32) (ix2 f 0) = (m ((d : Thread nD τ).loc main_arg1) : FVec Ideal S1x1x481x1 .f32) (ix4 0 0 f 0) := by
  unfold V V0
  simp only [List.flatten_cons, List.flatten_nil, List.append_nil, List.cons_append, List.nil_append]
  after_results
  pointwise

/-- An entry's number as a value. -/
theorem number (j : Fin 256) : FloatOps.sitofp (F := Ideal) .f32 (BitVec.ofNat 32 j.val) = ((j.val : ℝ) : EReal) := by
  have h : (BitVec.ofNat 32 j.val).toInt = (j.val : ℤ) := toInt_ofNat_of_lt (by omega)
  show (((BitVec.ofNat 32 j.val).toInt : ℝ) : EReal) = _
  rw [h, Int.cast_natCast]

/-- A power of the decay. -/
theorem power (n : ℕ) : Ideal.pow (Ideal.ofBits .f32 0x3F7D70A4#32) ((n : ℝ) : EReal) = ((Spec.decayR ^ n : ℝ) : EReal) := by
  rw [show Ideal.ofBits .f32 0x3F7D70A4#32 = ((Spec.decayR : ℝ) : EReal) from Spec.decay_eq, Ideal.pow_coe_coe]
  exact congrArg _ (Real.rpow_natCast _ _)

/-- The numbers of the entries. -/
abbrev numbers : FVec Ideal S256 .f32 := sitofp .f32 (iotaInDim S256 32 0)

/-- The table's formula at a row and a column. -/
theorem weight_at (k j : Fin 256) :
    (select (cmpf (F := Ideal) .ole (broadcastInDim S256x256 ![0, 1] bcast_S256x1_S256x256_0_1 (broadcastInDim S256x1 ![0] bcast_S256_S256x1_0 numbers))
          (broadcastInDim S256x256 ![0, 1] bcast_S1x256_S256x256_0_1 (broadcastInDim S1x256 ![1] bcast_S256_S1x256_1 numbers)))
        (mulf (broadcastInDim S256x256 ![] bcast_S_S256x256 (constant S_ .f32 0x3C23D70A#32))
          (Host.powf (broadcastInDim S256x256 ![] bcast_S_S256x256 (constant S_ .f32 0x3F7D70A4#32))
            (subf (broadcastInDim S256x256 ![0, 1] bcast_S1x256_S256x256_0_1 (broadcastInDim S1x256 ![1] bcast_S256_S1x256_1 numbers))
              (broadcastInDim S256x256 ![0, 1] bcast_S256x1_S256x256_0_1 (broadcastInDim S256x1 ![0] bcast_S256_S256x1_0 numbers)))))
        (broadcastInDim S256x256 ![] bcast_S_S256x256 (constant S_ .f32 0x00000000#32)) : FVec Ideal S256x256 .f32) (ix2 k j)
      = Decay.weight Spec.decayR Spec.blendR k.val j.val := by
  pointwise
  rw [number, number]
  unfold Decay.weight
  by_cases h : k.val ≤ j.val
  · rw [if_pos h, if_pos (EReal.coe_le_coe_iff.mpr (Nat.cast_le.mpr h)), ← EReal.coe_sub, ← Nat.cast_sub h, power,
      show Ideal.ofBits .f32 0x3C23D70A#32 = ((Spec.blendR : ℝ) : EReal) from Spec.blend_eq, ← EReal.coe_mul]
  · rw [if_neg h, if_neg fun q => h (Nat.cast_le.mp (EReal.coe_le_coe_iff.mp q))]

/-- The table of weights. -/
theorem table (k j : Fin 256) :
    (V m d main_v18 : FVec Ideal S256x256 .f32) (ix2 k j) = Decay.weight Spec.decayR Spec.blendR k.val j.val := by
  unfold V V0
  simp only [List.flatten_cons, List.flatten_nil, List.append_nil, List.cons_append, List.nil_append]
  after_results
  exact weight_at k j

/-- The row of the decay's powers. -/
theorem row (j : Fin 256) :
    (V m d main_v23 : FVec Ideal S1x256 .f32) (ix2 0 j) = ((Spec.decayR ^ (j.val + 1) : ℝ) : EReal) := by
  unfold V V0
  simp only [List.flatten_cons, List.flatten_nil, List.append_nil, List.cons_append, List.nil_append]
  after_results
  pointwise
  rw [number, ← power]
  exact congrArg _ (by push_cast; rfl)

end Cert.Tables
-- ==== Proof.Array.lean ====
/- What the kernel's output array holds after the grid: at a batch and channel, frequency, part and time the normalised entry. -/
module

public import proofs.«01_k».proof.Proof.Block
public import proofs.«01_k».proof.Proof.Tables

@[expose] public section

set_option maxRecDepth 16384

noncomputable section

open Idealize.ShloMosaic Idealize.ShloMosaic.TcCoe Idealize.SL.Sem
open Idealize.ShloMosaic.Pipeline (Dat)

namespace Cert.Array

open Cert.KernelIdeal Cert.KernelIdeal.Gen

/-- The normalised entries with a batch and a channel on one axis, then frequency, part and time. -/
def normal (X : FVec Ideal S16x2x1000x481x2 .f32) (S : FVec Ideal S1x1x481x1 .f32) : FVec Ideal S32x481x2x1000 .f32 := fun i =>
  Spec.unit X S ⟨(i 0).val / 2, by have : (i 0).val < 32 := (i 0).isLt; omega⟩ ⟨(i 0).val % 2, by omega⟩ (i 3) (i 1) (i 2)

/-- The normalised entry depends on the numbers of its coordinates only. -/
theorem unit_congr (X : FVec Ideal S16x2x1000x481x2 .f32) (S : FVec Ideal S1x1x481x1 .f32) {b b' : Fin 16} {c c' : Fin 2} {t t' : Fin 1000}
    {f f' : Fin 481} {p p' : Fin 2} (hb : b.val = b'.val) (hc : c.val = c'.val) (ht : t.val = t'.val) (hf : f.val = f'.val)
    (hp : p.val = p'.val) : Spec.unit X S b c t f p = Spec.unit X S b' c' t' f' p' := by
  rw [Fin.ext hb, Fin.ext hc, Fin.ext ht, Fin.ext hf, Fin.ext hp]

/-- Where the windows' blocks are at a grid point. -/
theorem idx : ∀ t : Fin cfg0.N, win0_0.index t = ![t.val, 0, 0, 0] ∧ win0_1.index t = ![0, 0] ∧ win0_2.index t = ![0, 0]
    ∧ win0_3.index t = ![0, 0] ∧ win0_4.index t = ![t.val, 0, 0, 0] ∧ t.val < 32 :=
  (by decide +kernel : ∀ t : Fin grid0.N, _)

variable (m : (ℓ : Loc nD τ sig) → Buf (Elt Ideal) ℓ) (d : Dev nD)

/-- The input at the launch. -/
abbrev input : FVec Ideal S16x2x1000x481x2 .f32 := m ((d : Thread nD τ).loc main_arg0)

/-- The given states at the launch. -/
abbrev given : FVec Ideal S1x1x481x1 .f32 := m ((d : Thread nD τ).loc main_arg1)

/-- A grid point works on its batch and channel of the input, and on the whole tables. -/
theorem reads (t : Fin cfg0.N) (b : Fin 16) (c : Fin 2) (hb : b.val = t.val / 2) (hc : c.val = t.val % 2) :
    Block.Reads (input m d) (given m d) b c
      (iblk m d 0 t) (iblk m d 3 t) (iblk m d 1 t) (iblk m d 2 t) where
  entry f p u := by
    refine Eq.trans ?_ ((Tables.entries m d ⟨t.val, (idx t).2.2.2.2.2⟩ f p u).trans ?_)
    · blk_point [iblk, idx t]
    · exact congrArg₂ (fun b c => input m d (ix5 b c u f p))
        (Fin.ext hb.symm) (Fin.ext hc.symm)
  state f := by
    refine Eq.trans ?_ (Tables.states m d f)
    blk_point [iblk, idx t]
  table k j := by
    refine Eq.trans ?_ (Tables.table m d k j)
    blk_point [iblk, idx t]
  row j := by
    refine Eq.trans ?_ (Tables.row m d j)
    blk_point [iblk, idx t]

/-- A stored piece at any of its indices, from its value at a frequency, a part and a time. -/
theorem piece {L : ℕ} (P : FVec Ideal ⟨4, ![1, 481, 2, L]⟩ .f32) (X : FVec Ideal S16x2x1000x481x2 .f32) (S : FVec Ideal S1x1x481x1 .f32)
    (b : Fin 16) (c : Fin 2) (time : Fin L → Fin 1000)
    (hP : ∀ (f : Fin 481) (p : Fin 2) (j : Fin L), P (ix4 0 f p j) = Spec.unit X S b c (time j) f p)
    (x : (⟨4, ![1, 481, 2, L]⟩ : Shape).Idx) (y : S1x481x2x1000.Idx) (e1 : (y 1).val = (x 1).val) (e2 : (y 2).val = (x 2).val)
    (e3 : (y 3).val = (time (x 3)).val) : P x = Spec.unit X S b c (y 3) (y 1) (y 2) := by
  have hx : x = ix4 0 (x 1) (x 2) (x 3) := by
    funext a
    match a with
    | ⟨0, _⟩ => exact Fin.ext (Nat.lt_one_iff.mp (x 0).isLt)
    | ⟨1, _⟩ => rfl
    | ⟨2, _⟩ => rfl
    | ⟨3, _⟩ => rfl
  have h1 : y 1 = x 1 := Fin.ext e1
  have h2 : y 2 = x 2 := Fin.ext e2
  have h3 : y 3 = time (x 3) := Fin.ext e3
  rw [h1, h2, h3]
  exact (congrArg P hx).trans (hP _ _ _)

/-- What a grid point leaves in its block. -/
theorem point (hS : ∀ f : Fin 481, 0 ≤ given m d (ix4 0 0 f 0))
    (t : Fin cfg0.N) (y : S1x481x2x1000.Idx) (b : Fin 16) (c : Fin 2) (hb : b.val = t.val / 2) (hc : c.val = t.val % 2) :
    (outsAt0 m d t : FVec Ideal S1x481x2x1000 .f32) y
      = Spec.unit (input m d) (given m d) b c (y 3) (y 1) (y 2) := by
  have hr := reads m d t b c hb hc
  unfold outsAt0
  frame_out
  canon_tiles x e using View.cover_of_tiledBy _ ![1, 481, 2, 8] (by sl_kernel_rfl) y
  · exact piece _ _ _ b c (fun j => ⟨768 + j.val, by omega⟩) (Block.stored3 hr hS) x y e1 e2 e3
  · exact piece _ _ _ b c (fun j => ⟨512 + j.val, by omega⟩) (Block.stored2 hr hS) x y e1 e2 e3
  · exact piece _ _ _ b c (fun j => ⟨256 + j.val, by omega⟩) (Block.stored1 hr hS) x y e1 e2 e3
  · exact piece _ _ _ b c (fun j => ⟨j.val, by omega⟩) (Block.stored0 hr hS) x y e1 e2 e3

/-- The output array after the grid. -/
theorem final (hS : ∀ f : Fin 481, 0 ≤ given m d (ix4 0 0 f 0)) :
    (dats m 0 d).arrAt 4 (cfgs 0).N = normal (input m d) (given m d) := by
  refine (dats m 0 d).arrAt_eq_of_covers 4 _ (by decide +kernel) fun t _ y => ?_
  blk_simp
  rw [after0_4]
  have ht := (idx t).2.2.2.2.2
  refine (point m d hS t y ⟨t.val / 2, by omega⟩ ⟨t.val % 2, by omega⟩ rfl rfl).trans ?_
  unfold normal
  refine unit_congr _ _ ?_ ?_ ?_ ?_ ?_
  all_goals (blk_simp [idx t] <;> try omega)

end Cert.Array
-- ==== Proof.Result.lean ====
/- What the kernel's program returns: its output array with the axes put back, so at an index the normalised entry. -/
module

public import proofs.«01_k».proof.Proof.Array

@[expose] public section

set_option maxRecDepth 16384

noncomputable section

open Idealize.ShloMosaic Idealize.ShloMosaic.TcCoe Idealize.SL.Sem
open Idealize.ShloMosaic.StableHlo Idealize.ShloMosaic.Tactic

namespace Cert.Result

open Cert.KernelIdeal Cert.KernelIdeal.Gen Cert.Array

/-- The output array with the axes put back, at an index. -/
theorem restored (X : FVec Ideal S16x2x1000x481x2 .f32) (S : FVec Ideal S1x1x481x1 .f32) (b : Fin 16) (c : Fin 2) (t : Fin 1000) (f : Fin 481)
    (p : Fin 2) :
    (transpose S16x2x1000x481x2 [0, 1, 4, 2, 3] (shapeCast S16x2x481x2x1000 (normal X S) shapeCasts_S32x481x2x1000_S16x2x481x2x1000)
        transposes_S16x2x481x2x1000_S16x2x1000x481x2_0_1_4_2_3 : FVec Ideal S16x2x1000x481x2 .f32) (ix5 b c t f p)
      = Spec.unit X S b c t f p := by
  pointwise
  exact unit_congr X S (show (b.val * 2 + c.val) / 2 = b.val by omega) (show (b.val * 2 + c.val) % 2 = c.val by omega) rfl rfl rfl

variable (m : (ℓ : Loc nD τ sig) → Buf (Elt Ideal) ℓ) (ρ : Dev nD → PrngReg) (d : Dev nD)

/-- The output array as the lines after the grid find it. -/
theorem left (hS : ∀ f : Fin 481, 0 ≤ given m d (ix4 0 0 f 0)) :
    Pipeline.withArrays (cfgs 0).spec d (V0 m d) (fun w => (dats m 0 d).arrAt w (cfgs 0).N) (Proc.devRef .tc main_v24)
      = normal (input m d) (given m d) :=
  (Pipeline.withArrays_arr spec0 (by decide) d (V0 m d) _ 4).trans (final m d hS)

/-- The result after the lines that follow the grid. -/
theorem tail (hS : ∀ f : Fin 481, 0 ≤ given m d (ix4 0 0 f 0)) (b : Fin 16) (c : Fin 2) (t : Fin 1000) (f : Fin 481) (p : Fin 2) :
    (Pipeline.afterTail₀ cfgs (dats m) 0 (V0 m) [hostOps1] d main_v26 : FVec Ideal S16x2x1000x481x2 .f32) (ix5 b c t f p)
      = Spec.unit (input m d) (given m d) b c t f p := by
  unfold Pipeline.afterTail₀
  simp only [List.flatten_cons, List.flatten_nil, List.append_nil, List.cons_append, List.nil_append]
  after_results
  exact (congrArg (fun A : FVec Ideal S32x481x2x1000 .f32 =>
    (transpose S16x2x1000x481x2 [0, 1, 4, 2, 3] (shapeCast S16x2x481x2x1000 A shapeCasts_S32x481x2x1000_S16x2x481x2x1000)
      transposes_S16x2x481x2x1000_S16x2x1000x481x2_0_1_4_2_3 : FVec Ideal S16x2x1000x481x2 .f32) (ix5 b c t f p)) (left m d hS)).trans
    (restored _ _ b c t f p)

/-- The kernel's program ends with the normalised entries as its result and its arguments as launched. -/
theorem run (hS : ∀ (d : Dev nD) (f : Fin 481), 0 ≤ given m d (ix4 0 0 f 0)) :
    θ_run defs (onTc (τ := τ) (main (F := Ideal))) ⟨m, fun _ => 0, ρ⟩ (fun r => ∀ d : Dev nD,
      (∀ b c t f p, (r.2.mem ((d.tc : Thread nD τ).loc main_v26) : FVec Ideal S16x2x1000x481x2 .f32) (ix5 b c t f p)
        = Spec.unit (input m d) (given m d) b c t f p)
      ∧ r.2.mem ((d.tc : Thread nD τ).loc main_arg0) = m ((d.tc : Thread nD τ).loc main_arg0)
      ∧ r.2.mem ((d.tc : Thread nD τ).loc main_arg1) = m ((d.tc : Thread nD τ).loc main_arg1)) :=
  (θ_run defs _ _).mono (fun _ h d => ⟨fun b c t f p =>
      (congrArg (fun A : FVec Ideal S16x2x1000x481x2 .f32 => A (ix5 b c t f p))
        ((h d).2 main_v26 (Pipeline.mem_restRefs_of main_v26 (by decide) (by decide)))).trans (tail m d (hS d) b c t f p),
    ((h d).2 main_arg0 (Pipeline.mem_restRefs_of main_arg0 (by decide) (by decide))).trans (W_main_arg0 m (dats m) d),
    ((h d).2 main_arg1 (Pipeline.mem_restRefs_of main_arg1 (by decide) (by decide))).trans (W_main_arg1 m (dats m) d)⟩) (run_main m ρ)

end Cert.Result
-- ==== Proof.lean ====
/- The claim assembled: the frames of the kernel, of its ideal form and of the reference, and the equation of the
   kernel's result with the reference's over the extended reals. The mathematics is in the modules of `Proof/`:
   `Decay` and `Spec` (the recurrence and its closed form over a chunk), `Tables` and `Block` (what one grid step
   computes), `Array` and `Result` (what the kernel returns), `Reference` (what the scan returns), `Precondition`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_nonneg
public import proofs.«01_k».proof.Proof.Precondition
public import proofs.«01_k».proof.Proof.Reference
public import proofs.«01_k».proof.Proof.Result
public import Idealize.ShloMosaic.Adequacy
public import Idealize.ShloMosaic.Init

@[expose] public section

noncomputable section

namespace Cert.Proof

open Idealize.ShloMosaic Idealize.SL.Sem Cert.Kernel

/-- The reference ends with its arguments as launched and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
          r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, Idealize.ShloMosaic.sem_eq_zero_of_no_sems (by decide) r.2⟩) (Cert.Reference.run m ρ)

/-- Kernel and reference end with the same result over the reals: the array of normalised entries. -/
theorem equal : Cert.algebraic_KernelIdeal_ReferenceIdeal_pre_nonneg (hKernelIdeal := Cert.KernelIdeal.Gen.facts)
    (hReferenceIdeal := Cert.ReferenceIdeal.Gen.facts) (hPre_nonneg := Cert.Pre_nonneg.Gen.facts) := by
  intro m g m' g' hpre hargs
  have hS : ∀ (d : Dev Cert.KernelIdeal.nD) (f : Fin 481), 0 ≤ Cert.Array.given m d (ix4 0 0 f 0) :=
    fun d f => Cert.Precondition.states_nonneg _ _ (hpre d) f
  refine ⟨fun d => Cert.Spec.whole (Cert.Array.input m d) (Cert.Array.given m d), ?_, ?_⟩
  · exact (θ_run _ _ _).mono (fun r h d => ⟨Cert.Spec.eq_whole _ _ _ (h d).1, (h d).2⟩) (Cert.Result.run m g hS)
  · refine (θ_run _ _ _).mono (fun r h d => ⟨?_, (h d).2⟩) (Cert.Reference.run m' g')
    refine (Cert.Spec.eq_whole _ _ _ (h d).1).trans ?_
    exact congrArg₂ Cert.Spec.whole (hargs d).1 (hargs d).2

theorem claim : Cert.Claim := ⟨Cert.Kernel.Gen.facts, Cert.KernelIdeal.Gen.facts, Cert.ReferenceIdeal.Gen.facts, Cert.Pre_nonneg.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  trivial,
  equal⟩

end Cert.Proof

end
